-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S50000x512 : Shape := ⟨2, ![50000, 512]⟩
abbrev S50000 : Shape := ⟨1, ![50000]⟩
abbrev S25x1x2000 : Shape := ⟨3, ![25, 1, 2000]⟩
abbrev S128x512 : Shape := ⟨2, ![128, 512]⟩
abbrev S1x1x2000 : Shape := ⟨3, ![1, 1, 2000]⟩
abbrev S2000x512 : Shape := ⟨2, ![2000, 512]⟩
abbrev S128x1 : Shape := ⟨2, ![128, 1]⟩
abbrev S2000 : Shape := ⟨1, ![2000]⟩
abbrev S128x2000 : Shape := ⟨2, ![128, 2000]⟩
abbrev S1x2000 : Shape := ⟨2, ![1, 2000]⟩
abbrev S128 : Shape := ⟨1, ![128]⟩

abbrev nBuf : Space → Nat
  | .hbm => 4
  | .vmem => 7
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S25x1x2000, .i32⟩
  | .hbm, ⟨3, _⟩ => ⟨S128x512, .f32⟩
  | .local _ .vmem, ⟨0, _⟩ => ⟨S1x1x2000, .i32⟩
  | .local _ .vmem, ⟨1, _⟩ => ⟨S1x1x2000, .i32⟩
  | .local _ .vmem, ⟨2, _⟩ => ⟨S2000x512, .f32⟩
  | .local _ .vmem, ⟨3, _⟩ => ⟨S2000x512, .f32⟩
  | .local _ .vmem, ⟨4, _⟩ => ⟨S128x512, .f32⟩
  | .local _ .vmem, ⟨5, _⟩ => ⟨S128x512, .f32⟩
  | .local _ .vmem, ⟨6, _⟩ => ⟨S128x1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v25 : BitVec 1 := Scalar.cmpi .eq arg0 c24_i32
  let v26 : BitVec 32 := Scalar.extui v25
  let c0_i32_14 : BitVec 32 := 0#32
  let v27 : BitVec 1 := Scalar.cmpi .ne v26 c0_i32_14
  v27

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S50000x512 : Shape := ⟨2, ![50000, 512]⟩
abbrev S50000 : Shape := ⟨1, ![50000]⟩
abbrev S_ : Shape := ⟨0, ![]⟩
abbrev S128x512 : Shape := ⟨2, ![128, 512]⟩
abbrev S50000x1 : Shape := ⟨2, ![50000, 1]⟩
abbrev S128 : Shape := ⟨1, ![128]⟩
abbrev S128x1 : Shape := ⟨2, ![128, 1]⟩

abbrev nBuf : Space → Nat
  | .hbm => 19
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S_, .f32⟩
  | .hbm, ⟨3, _⟩ => ⟨S128x512, .f32⟩
  | .hbm, ⟨4, _⟩ => ⟨S50000x1, .i32⟩
  | .hbm, ⟨5, _⟩ => ⟨S128x512, .f32⟩
  | .hbm, ⟨6, _⟩ => ⟨S_, .f32⟩
  | .hbm, ⟨7, _⟩ => ⟨S50000, .f32⟩
  | .hbm, ⟨8, _⟩ => ⟨S_, .f32⟩
  | .hbm, ⟨9, _⟩ => ⟨S128, .f32⟩
  | .hbm, ⟨10, _⟩ => ⟨S50000x1, .i32⟩
  | .hbm, ⟨11, _⟩ => ⟨S128, .f32⟩
  | .hbm, ⟨12, _⟩ => ⟨S_, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S128x1, .f32⟩
  | .hbm, ⟨17, _⟩ => ⟨S128x512, .f32⟩
  | .hbm, ⟨18, _⟩ => ⟨S128x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Proof.Steps.lean ====
/- What one grid point leaves behind: the two carried scratch arrays (the segments' sums and their counts) and, at the
   last point, the output block, each as the body's own stored value of the blocks that the point was given. -/
module

public import proofs.«01_k».proof.Proof.Gen.KernelIdeal.Value
public import Idealize.ShloMosaic.Lib.Tactic

@[expose] public section

noncomputable section

namespace Cert.SegMean

open Cert.KernelIdeal Cert.KernelIdeal.Gen Idealize.ShloMosaic Idealize.ShloMosaic.TcCoe Idealize.SL.Sem

variable {F : FTy → Type} [FloatOps F]

/-- The offsets that every access of a matrix uses are zero. -/
theorem zeros2 : (![0, 0] : Fin 2 → Nat) = fun _ => 0 := by
  funext a; fin_cases a <;> rfl

/-- The offsets that the access of the segment block uses are zero. -/
theorem zeros3 : (![0, 0, 0] : Fin 3 → Nat) = fun _ => 0 := by
  funext a; fin_cases a <;> rfl

section Cases

variable (c : Dev nD) (i : grid0.Coords)
  (a1 : Memref sig .tc .vmem S1x1x2000 .i32) (h1 : a1.IsWhole) (a2 : Memref sig .tc .vmem S2000x512 .f32) (h2 : a2.IsWhole)
  (a3 : Memref sig .tc .vmem S128x512 .f32) (h3 : a3.IsWhole) (a4 : Memref sig .tc .vmem S128x512 .f32) (h4 : a4.IsWhole)
  (a5 : Memref sig .tc .vmem S128x1 .f32) (h5 : a5.IsWhole)
  (b : Vec F S1x1x2000 .i32) (x : Vec F S2000x512 .f32)

/-- The first point leaves, as sums, zero plus its block's product. -/
theorem first_sums (hc0 : cond0_0 i) (hc1 : ¬cond0_1 i) :
    sout0_A_0 c i a1 h1 a2 h2 a3 h3 a4 h4 a5 h5 hc0 hc1 b x = k0_pay4 b (k0_pay1 (F := F)) x := by
  unfold sout0_A_0
  rw [View.read_writes_eq_canon _ _ _ (scover0_A_0 c i a1 h1 a2 h2 a3 h3 a4 h4 a5 h5 hc0 hc1 b x)]
  unfold kernelRun0_A
  dsimp only
  sl_unfold_words
  rw [View.canon_cons_unit_zero (S := S128x512) zeros2, View.readCov_unit_zero (S := S128x512) _ zeros2]
  simp only [View.readAt_eq_ld, h1.read_unread, h2.read_unread, View.ld_unit_zero (S := S1x1x2000) zeros3,
    View.ld_unit_zero (S := S2000x512) zeros2]

/-- The first point leaves, as counts, zero plus its block's count. -/
theorem first_counts (hc0 : cond0_0 i) (hc1 : ¬cond0_1 i) :
    sout0_A_1 c i a1 h1 a2 h2 a3 h3 a4 h4 a5 h5 hc0 hc1 b x = k0_pay5 b (k0_pay2 (F := F)) := by
  unfold sout0_A_1
  rw [View.read_writes_eq_canon _ _ _ (scover0_A_1 c i a1 h1 a2 h2 a3 h3 a4 h4 a5 h5 hc0 hc1 b x)]
  unfold kernelRun0_A
  dsimp only
  sl_unfold_words
  rw [View.canon_cons_unit_zero (S := S128x1) zeros2, View.readCov_unit_zero (S := S128x1) _ zeros2]
  simp only [View.readAt_eq_ld, h1.read_unread, View.ld_unit_zero (S := S1x1x2000) zeros3]

variable (s : Vec F S128x512 .f32) (n : Vec F S128x1 .f32)

/-- A middle point adds its block's product to the sums. -/
theorem middle_sums (hc0 : ¬cond0_0 i) (hc1 : ¬cond0_1 i) :
    sout0_B_0 c i a1 h1 a2 h2 a3 h3 a4 h4 a5 h5 hc0 hc1 b x s n = k0_pay4 b s x := by
  unfold sout0_B_0
  rw [View.read_writes_eq_canon _ _ _ (scover0_B_0 c i a1 h1 a2 h2 a3 h3 a4 h4 a5 h5 hc0 hc1 b x s n)]
  unfold kernelRun0_B
  dsimp only
  rw [View.canon_unit_zero zeros2]
  simp only [View.readAt_eq_ld, h1.read_unread, h2.read_unread, h4.read_unread, View.ld_unit_zero (S := S1x1x2000) zeros3,
    View.ld_unit_zero (S := S2000x512) zeros2, View.ld_unit_zero (S := S128x512) zeros2]

/-- A middle point adds its block's count to the counts. -/
theorem middle_counts (hc0 : ¬cond0_0 i) (hc1 : ¬cond0_1 i) :
    sout0_B_1 c i a1 h1 a2 h2 a3 h3 a4 h4 a5 h5 hc0 hc1 b x s n = k0_pay5 b n := by
  unfold sout0_B_1
  rw [View.read_writes_eq_canon _ _ _ (scover0_B_1 c i a1 h1 a2 h2 a3 h3 a4 h4 a5 h5 hc0 hc1 b x s n)]
  unfold kernelRun0_B
  dsimp only
  rw [View.canon_unit_zero zeros2]
  simp only [View.readAt_eq_ld, h1.read_unread, h5.read_unread, View.ld_unit_zero (S := S1x1x2000) zeros3,
    View.ld_unit_zero (S := S128x1) zeros2]

/-- The last point writes the quotient of the sums and the clipped counts, both with its own block added. -/
theorem last_output (hc0 : ¬cond0_0 i) (hc1 : cond0_1 i) :
    out0_C_2 c i a1 h1 a2 h2 a3 h3 a4 h4 a5 h5 hc0 hc1 b x s n = k0_pay6 (k0_pay4 b s x) (k0_pay5 b n) := by
  unfold out0_C_2
  rw [View.read_writes_eq_canon _ _ _ (cover0_C_2 c i a1 h1 a2 h2 a3 h3 a4 h4 a5 h5 hc0 hc1 b x s n)]
  unfold kernelRun0_C
  dsimp only
  sl_unfold_words
  rw [View.canon_unit_zero zeros2, View.readCov_unit_zero (S := S128x512) _ zeros2, View.readCov_unit_zero (S := S128x1) _ zeros2]
  simp only [View.readAt_eq_ld, h1.read_unread, h2.read_unread, h4.read_unread, h5.read_unread,
    View.ld_unit_zero (S := S1x1x2000) zeros3, View.ld_unit_zero (S := S2000x512) zeros2,
    View.ld_unit_zero (S := S128x512) zeros2, View.ld_unit_zero (S := S128x1) zeros2]

end Cases

end Cert.SegMean

end
-- ==== Proof.Pick.lean ====
/- The segment sums themselves: what one row adds to one segment, and the sum of the rows' parts over the first rows, which
   grows by one block of 2000 rows at a time and is the sum over all rows after 25 blocks. -/
module

public import Idealize.ShloMosaic.PureOps.Ideal.Laws

@[expose] public section

noncomputable section

namespace Cert.SegMean

/-- `v` where the segment word `w`, read signed, is the segment `g`, and zero elsewhere. -/
def pick (g : Fin 128) (w : BitVec 32) (v : EReal) : EReal := if w.toInt = (g.val : Int) then v else 0

/-- The word of a segment's number is a given word exactly when that word, read signed, is the number. -/
theorem word_eq_iff (g : Fin 128) (w : BitVec 32) : BitVec.ofNat 32 g.val = w ↔ w.toInt = (g.val : Int) := by
  have hg := g.isLt
  have hw : (BitVec.ofNat 32 g.val).toInt = (g.val : Int) := by
    rw [BitVec.toInt_ofNat']
    simp only [Int.bmod_def]
    omega
  constructor
  · rintro rfl
    exact hw
  · intro h
    exact BitVec.eq_of_toInt_eq (hw.trans h.symm)

/-- A pick of one, times a value, is the pick of the value. -/
theorem pick_one_mul (g : Fin 128) (w : BitVec 32) (v : EReal) : pick g w 1 * v = pick g w v := by
  unfold pick
  split
  · exact one_mul v
  · exact zero_mul v

/-- What the first `n` rows add to segment `g`: row `r` has the word `w r` and the value `v r`. -/
def partialSum (g : Fin 128) (w : Fin 50000 → BitVec 32) (v : Fin 50000 → EReal) (n : ℕ) : EReal :=
  ∑ r ∈ Finset.range n, if h : r < 50000 then pick g (w ⟨r, h⟩) (v ⟨r, h⟩) else 0

/-- No rows add nothing. -/
theorem partialSum_zero (g : Fin 128) (w : Fin 50000 → BitVec 32) (v : Fin 50000 → EReal) : partialSum g w v 0 = 0 := by
  simp [partialSum]

/-- All rows: the sum over every row's pick. -/
theorem partialSum_all (g : Fin 128) (w : Fin 50000 → BitVec 32) (v : Fin 50000 → EReal) :
    partialSum g w v 50000 = ∑ r : Fin 50000, pick g (w r) (v r) := by
  unfold partialSum
  rw [Finset.sum_range]
  exact Finset.sum_congr rfl fun r _ => dif_pos r.isLt

/-- One more block: the next 2000 rows' picks, given row by row. -/
theorem partialSum_block (g : Fin 128) (w : Fin 50000 → BitVec 32) (v : Fin 50000 → EReal) (t : ℕ) (ht : t < 25)
    (u : Fin 2000 → EReal) (hu : ∀ (k : Fin 2000) (r : Fin 50000), r.val = 2000 * t + k.val → u k = pick g (w r) (v r)) :
    partialSum g w v (2000 * t) + ∑ k : Fin 2000, u k = partialSum g w v (2000 * (t + 1)) := by
  unfold partialSum
  rw [show 2000 * (t + 1) = 2000 * t + 2000 by ring, Finset.sum_range_add, Finset.sum_range (n := 2000)]
  congr 1
  refine Finset.sum_congr rfl fun k _ => ?_
  have hk : 2000 * t + k.val < 50000 := by have := k.isLt; omega
  rw [dif_pos hk]
  exact hu k ⟨_, hk⟩ rfl

end Cert.SegMean

end
-- ==== Proof.Blocks.lean ====
/- One block of rows, at the ideal instance: the one-hot product and the row sums of the one-hot matrix, read at an index,
   and the blocks that the pipeline stages, read as parts of the arguments. -/
module

public import proofs.«01_k».proof.Proof.Pick
public import proofs.«01_k».proof.Proof.Gen.KernelIdeal.Value
public import Idealize.ShloMosaic.Lib.Pointwise
public import Idealize.ShloMosaic.Lib.Claim

@[expose] public section

noncomputable section

namespace Cert.SegMean

open Cert.KernelIdeal Cert.KernelIdeal.Gen Idealize.ShloMosaic Idealize.ShloMosaic.TcCoe Idealize.SL.Sem

/-- The one-hot matrix at segment `g` and row `k`: one where the row's word names the segment, zero elsewhere. -/
theorem onehot_apply (b : Vec Ideal S1x1x2000 .i32) (g : Fin 128) (k : Fin 2000) :
    k0_pay3 (F := Ideal) b (ix2 g k) = pick g (b (ix3 0 0 k)) 1 := by
  unfold k0_pay3
  pointwise
  show ((BitVec.setWidth 32 (BitVec.ofBool _)).toInt : ℝ) = (_ : EReal)
  unfold pick
  by_cases h : BitVec.ofNat 32 g.val = b (ix3 0 0 k)
  · rw [if_pos ((word_eq_iff _ _).1 h)]
    simp [h]
  · rw [if_neg fun h' => h ((word_eq_iff _ _).2 h'), beq_eq_false_iff_ne.2 h]
    simp

/-- The sums' step at an entry: what it was plus what the block's rows add. -/
theorem sums_step (b : Vec Ideal S1x1x2000 .i32) (s : Vec Ideal S128x512 .f32) (x : Vec Ideal S2000x512 .f32) (g : Fin 128) (l : Fin 512) :
    k0_pay4 (F := Ideal) b s x (ix2 g l) = s (ix2 g l) + ∑ k : Fin 2000, pick g (b (ix3 0 0 k)) (x (ix2 k l)) := by
  unfold k0_pay4
  pointwise
  congr 1
  refine Finset.sum_congr rfl fun k _ => ?_
  rw [onehot_apply, pick_one_mul]

/-- The counts' step at an entry: what it was plus how many of the block's rows name the segment. -/
theorem counts_step (b : Vec Ideal S1x1x2000 .i32) (n : Vec Ideal S128x1 .f32) (g : Fin 128) :
    k0_pay5 (F := Ideal) b n (ix2 g 0) = n (ix2 g 0) + ∑ k : Fin 2000, pick g (b (ix3 0 0 k)) 1 := by
  unfold k0_pay5
  pointwise
  exact congrArg (n (ix2 g 0) + ·) (Finset.sum_congr rfl fun k _ => onehot_apply b g k)

/-- The output at an entry: the sum over the count, the count clipped from below at one. -/
theorem quotient_apply (s : Vec Ideal S128x512 .f32) (n : Vec Ideal S128x1 .f32) (g : Fin 128) (l : Fin 512) :
    k0_pay6 (F := Ideal) s n (ix2 g l) = Ideal.div (s (ix2 g l)) (max (n (ix2 g 0)) 1) := by
  unfold k0_pay6
  pointwise

/-- The sums start at zero. -/
theorem zero_sums (j : S128x512.Idx) : k0_pay1 (F := Ideal) j = 0 := by
  unfold k0_pay1
  pointwise

/-- The counts start at zero. -/
theorem zero_counts (j : S128x1.Idx) : k0_pay2 (F := Ideal) j = 0 := by
  unfold k0_pay2
  pointwise

/-- Point `t` stages word block `(t, 0, 0)`. -/
theorem word_block : ∀ t : Fin cfg0.N, win0_0.index t (0 : Fin 3) = t.val ∧ win0_0.index t (1 : Fin 3) = 0 ∧ win0_0.index t (2 : Fin 3) = 0 :=
  (by decide +kernel : ∀ t : Fin grid0.N, _)

/-- Point `t` stages row block `(t, 0)`. -/
theorem row_block : ∀ t : Fin cfg0.N, win0_1.index t (0 : Fin 2) = t.val ∧ win0_1.index t (1 : Fin 2) = 0 :=
  (by decide +kernel : ∀ t : Fin grid0.N, _)

variable (m : (ℓ : Loc nD τ sig) → Buf (Elt Ideal) ℓ)

/-- The block of rows at point `t` is rows `2000 t` to `2000 t + 1999` of the first argument. -/
theorem staged_rows (c : Dev nD) (t : Fin cfg0.N) (k : Fin 2000) (l : Fin 512) (r : Fin 50000) (hr : r.val = 2000 * t.val + k.val) :
    (iblk m c 1 t : Vec Ideal S2000x512 .f32) (ix2 k l) = (m ((c : Thread nD τ).loc main_arg0) : Vec Ideal S50000x512 .f32) (ix2 r l) := by
  unfold iblk
  rw [View.read_apply]
  show V m c main_arg0 _ = _
  rw [V_main_arg0]
  obtain ⟨e0, e1⟩ := row_block t
  have he : ((cfg0.win 1).blk t).view.emb (ix2 k l) = (ix2 r l : S50000x512.Idx) := by
    funext a
    apply Fin.ext
    match a with
    | ⟨0, _⟩ =>
      show win0_1.index t (0 : Fin 2) * 2000 + 1 * k.val = r.val
      rw [e0]; omega
    | ⟨1, _⟩ =>
      show win0_1.index t (1 : Fin 2) * 512 + 1 * l.val = l.val
      rw [e1]; omega
  exact congrArg _ he

/-- The block of words at point `t` is words `2000 t` to `2000 t + 1999` of the second argument. -/
theorem staged_segments (c : Dev nD) (t : Fin cfg0.N) (k : Fin 2000) (r : Fin 50000) (hr : r.val = 2000 * t.val + k.val) :
    (iblk m c 0 t : Vec Ideal S1x1x2000 .i32) (ix3 0 0 k) = (m ((c : Thread nD τ).loc main_arg1) : Vec Ideal S50000 .i32) (ix1 r) := by
  unfold iblk
  rw [View.read_apply]
  show V m c main_v0 _ = _
  entry_read
  have ht : t.val < 25 := lt_of_lt_of_eq t.isLt N_0
  obtain ⟨e0, e1, e2⟩ := word_block t
  have he : ((View.whole main_v0).slice ((win0 0).rect t)).emb (ix3 0 0 k) = (ix3 ⟨t.val, ht⟩ 0 k : S25x1x2000.Idx) := by
    funext a
    apply Fin.ext
    match a with
    | ⟨0, _⟩ =>
      show win0_0.index t (0 : Fin 3) * 1 + 1 * 0 = t.val
      rw [e0]; omega
    | ⟨1, _⟩ =>
      show win0_0.index t (1 : Fin 3) * 1 + 1 * 0 = 0
      rw [e1]
    | ⟨2, _⟩ =>
      show win0_0.index t (2 : Fin 3) * 2000 + 1 * k.val = k.val
      rw [e2]; omega
  rw [he]
  pointwise
  have hk : (⟨t.val * 2000 + k.val, by have := k.isLt; omega⟩ : Fin 50000) = r := Fin.ext (by show t.val * 2000 + k.val = r.val; omega)
  exact congrArg (fun r : Fin 50000 => (m ((c : Thread nD τ).loc main_arg1) : Vec Ideal S50000 .i32) (ix1 r)) hk

end Cert.SegMean

end
-- ==== Proof.Fold.lean ====
/- The kernel's result: point by point, the carried scratch arrays hold the segments' sums and counts over the rows seen so
   far, and the last point writes the sums over all rows divided by the counts over all rows, clipped from below at one. -/
module

public import proofs.«01_k».proof.Proof.Steps
public import proofs.«01_k».proof.Proof.Blocks

@[expose] public section

noncomputable section

namespace Cert.SegMean

open Cert.KernelIdeal Cert.KernelIdeal.Gen Idealize.ShloMosaic Idealize.ShloMosaic.TcCoe Idealize.SL.Sem

variable (m : (ℓ : Loc nD τ sig) → Buf (Elt Ideal) ℓ) (c : Dev nD)

/-- The segment word of a row, from the second argument. -/
def wordOf (r : Fin 50000) : BitVec 32 := (m ((c : Thread nD τ).loc main_arg1) : Vec Ideal S50000 .i32) (ix1 r)

/-- A row's value in one column, from the first argument. -/
def valueOf (l : Fin 512) (r : Fin 50000) : EReal := (m ((c : Thread nD τ).loc main_arg0) : Vec Ideal S50000x512 .f32) (ix2 r l)

/-- Segment `g`'s sum in column `l` over the first `n` rows. -/
def sumUpTo (g : Fin 128) (l : Fin 512) (n : ℕ) : EReal := partialSum g (wordOf m c) (valueOf m c l) n

/-- Segment `g`'s count over the first `n` rows. -/
def countUpTo (g : Fin 128) (n : ℕ) : EReal := partialSum g (wordOf m c) (fun _ => 1) n

/-- Sums over the rows before point `t`'s block become, by the body's step, the sums over the rows through that block. -/
theorem sums_grow (t : Fin cfg0.N) (s : Vec Ideal S128x512 .f32) (g : Fin 128) (l : Fin 512)
    (hs : s (ix2 g l) = sumUpTo m c g l (2000 * t.val)) :
    k0_pay4 (F := Ideal) (iblk m c 0 t) s (iblk m c 1 t) (ix2 g l) = sumUpTo m c g l (2000 * (t.val + 1)) := by
  refine (sums_step (iblk m c 0 t) s (iblk m c 1 t) g l).trans ?_
  rw [hs]
  refine partialSum_block g (wordOf m c) (valueOf m c l) t.val (lt_of_lt_of_eq t.isLt N_0) _ fun k r hr => ?_
  rw [staged_segments m c t k r hr, staged_rows m c t k l r hr]
  rfl

/-- Counts over the rows before point `t`'s block become, by the body's step, the counts over the rows through that block. -/
theorem counts_grow (t : Fin cfg0.N) (n : Vec Ideal S128x1 .f32) (g : Fin 128)
    (hn : n (ix2 g 0) = countUpTo m c g (2000 * t.val)) :
    k0_pay5 (F := Ideal) (iblk m c 0 t) n (ix2 g 0) = countUpTo m c g (2000 * (t.val + 1)) := by
  refine (counts_step (iblk m c 0 t) n g).trans ?_
  rw [hn]
  refine partialSum_block g (wordOf m c) (fun _ => 1) t.val (lt_of_lt_of_eq t.isLt N_0) _ fun k r hr => ?_
  rw [staged_segments m c t k r hr]
  rfl

/-- After every point but the last the scratch arrays hold the sums and the counts over the rows seen so far. -/
theorem carried (n : ℕ) (hn : n < cfg0.N) (hlast : n < 24) :
    (∀ (g : Fin 128) (l : Fin 512), (outsAt0 m c n hn).2.1 (ix2 g l) = sumUpTo m c g l (2000 * (n + 1)))
      ∧ ∀ g : Fin 128, (outsAt0 m c n hn).2.2 (ix2 g 0) = countUpTo m c g (2000 * (n + 1)) := by
  induction n with
  | zero =>
    have e := outsAt0_A m c ⟨0, hn⟩ (Nat.zero_mod _) (fun h => by dsimp only at h; omega)
    dsimp only at e
    rw [e, first_sums, first_counts]
    exact ⟨fun g l => sums_grow m c ⟨0, hn⟩ _ g l ((zero_sums _).trans (partialSum_zero _ _ _).symm),
      fun g => counts_grow m c ⟨0, hn⟩ _ g ((zero_counts _).trans (partialSum_zero _ _ _).symm)⟩
  | succ n ih =>
    obtain ⟨hs, hc⟩ := ih (Nat.lt_of_succ_lt hn) (by omega)
    have e := outsAt0_B m c ⟨n + 1, hn⟩ (fun h => by dsimp only at h; omega) (fun h => by dsimp only at h; omega)
    dsimp only at e
    rw [e, middle_sums, middle_counts]
    exact ⟨fun g l => sums_grow m c ⟨n + 1, hn⟩ _ g l (hs g l), fun g => counts_grow m c ⟨n + 1, hn⟩ _ g (hc g)⟩

/-- The result array at an entry: the segment's sum over all rows, over its count over all rows clipped at one. -/
theorem result_apply (g : Fin 128) (l : Fin 512) :
    (Cert.KernelIdeal.Value.G2 m c : Vec Ideal S128x512 .f32) (ix2 g l)
      = Ideal.div (sumUpTo m c g l 50000) (max (countUpTo m c g 50000) 1) := by
  have h24 : 24 < cfg0.N := lt_of_lt_of_eq (by decide) N_0.symm
  have h23 : 23 < cfg0.N := lt_of_lt_of_eq (by decide) N_0.symm
  obtain ⟨hs, hc⟩ := carried m c 23 h23 (by decide)
  have e := outsAt0_C m c ⟨24, h24⟩ (fun h => by dsimp only at h; omega) rfl
  dsimp only at e
  rw [Cert.KernelIdeal.Value.G2_last, ← Cert.KernelIdeal.Value.outsAt0_sweep m c 24 h24, e, last_output]
  refine (quotient_apply _ _ g l).trans ?_
  rw [sums_grow m c ⟨24, h24⟩ _ g l (hs g l), counts_grow m c ⟨24, h24⟩ _ g (hc g)]
  rfl

end Cert.SegMean

end
-- ==== Proof.Segments.lean ====
/- The reference's two segment sums, read at an index: a scatter that adds lands update `r` on the segment that word `r`
   names, so each entry is the sum over all rows of what the row's word picks. -/
module

public import proofs.«01_k».proof.Proof.Pick
public import proofs.«01_k».proof.Proof.Gen.ReferenceIdeal.Run
public import Idealize.ShloMosaic.Lib.Pointwise
public import Idealize.ShloMosaic.Lib.Routing.OpsPair

@[expose] public section

noncomputable section

namespace Cert.SegMean

open Cert.ReferenceIdeal Idealize.ShloMosaic
open Idealize.ShloMosaic.Routing

variable [Cert.ReferenceIdeal.Facts]

/-- Update `(r, l')` of the row scatter lands at `(g, l)` exactly when word `r`, read signed, is `g` and the columns agree. -/
theorem row_lands (idx : IVec S50000x1 32) (r : Fin 50000) (l' : Fin 512) (g : Fin 128) (l : Fin 512) :
    scatter_S128x512_S50000x1_S50000x512_1_0_0_1.resultIdx? (ix2 r l') idx = some (ix2 g l)
      ↔ (idx (ix2 r 0)).toInt = (g.val : Int) ∧ l' = l := by
  set d := scatter_S128x512_S50000x1_S50000x512_1_0_0_1 with hd
  have hs0 : d.start (ix2 r l') idx 0 = (idx (ix2 r 0)).toInt := by
    unfold ScatterDims.start
    rw [dif_pos (by decide)]
    congr 2
    funext a
    match a with
    | ⟨0, _⟩ => rfl
    | ⟨1, _⟩ => rfl
  have hs1 : d.start (ix2 r l') idx 1 = 0 := by
    unfold ScatterDims.start
    rw [dif_neg (by decide)]
  have hw0 : d.window (ix2 r l') 0 = 0 := by
    unfold ScatterDims.window
    rw [dif_neg (by decide)]
  have hw1 : d.window (ix2 r l') 1 = l'.val := by
    unfold ScatterDims.window
    rw [dif_pos (by decide)]
    rfl
  refine (resultIdx?_ix2 d _ idx g l).trans ?_
  rw [hs0, hs1, hw0, hw1, Fin.ext_iff]
  omega

/-- Update `r` of the counting scatter lands at `g` exactly when word `r`, read signed, is `g`. -/
theorem one_lands (idx : IVec S50000x1 32) (r : Fin 50000) (g : Fin 128) :
    scatter_S128_S50000x1_S50000_n_0_0_1.resultIdx? (ix1 r) idx = some (ix1 g) ↔ (idx (ix2 r 0)).toInt = (g.val : Int) := by
  set d := scatter_S128_S50000x1_S50000_n_0_0_1 with hd
  have hs0 : d.start (ix1 r) idx 0 = (idx (ix2 r 0)).toInt := by
    unfold ScatterDims.start
    rw [dif_pos (by decide)]
    congr 2
    funext a
    match a with
    | ⟨0, _⟩ => rfl
    | ⟨1, _⟩ => rfl
  have hw0 : d.window (ix1 r) 0 = 0 := by
    unfold ScatterDims.window
    rw [dif_neg (by decide)]
  refine (resultIdx?_ix1 d _ idx g).trans ?_
  rw [hs0, hw0]
  omega

/-- The scatter of the rows at an entry: the operand's entry plus what every row's word picks. -/
theorem row_scatter (z : Vec Ideal S128x512 .f32) (idx : IVec S50000x1 32) (x : Vec Ideal S50000x512 .f32) (g : Fin 128) (l : Fin 512) :
    Host.scatterAdd (F := Ideal) (φ := .f32) scatter_S128x512_S50000x1_S50000x512_1_0_0_1 z idx x (ix2 g l)
      = z (ix2 g l) + ∑ r : Fin 50000, pick g (idx (ix2 r 0)) (x (ix2 r l)) := by
  unfold Host.scatterAdd
  rw [Ideal.hostScatterAdd_def]
  unfold Ideal.hostScatterAdd
  refine congrArg (z (ix2 g l) + ·) ?_
  rw [Finset.sum_filter, sum_idx2]
  refine Finset.sum_congr rfl fun r _ => ?_
  simp only [row_lands]
  unfold pick
  by_cases h : (idx (ix2 r 0)).toInt = (g.val : Int)
  · simp [h]
  · simp [h]

/-- The scatter of the ones at an entry: the operand's entry plus what every row's word picks. -/
theorem one_scatter (z : Vec Ideal S128 .f32) (idx : IVec S50000x1 32) (x : Vec Ideal S50000 .f32) (g : Fin 128) :
    Host.scatterAdd (F := Ideal) (φ := .f32) scatter_S128_S50000x1_S50000_n_0_0_1 z idx x (ix1 g)
      = z (ix1 g) + ∑ r : Fin 50000, pick g (idx (ix2 r 0)) (x (ix1 r)) := by
  unfold Host.scatterAdd
  rw [Ideal.hostScatterAdd_def]
  unfold Ideal.hostScatterAdd
  refine congrArg (z (ix1 g) + ·) ?_
  rw [Finset.sum_filter, sum_idx1]
  refine Finset.sum_congr rfl fun r _ => ?_
  simp only [one_lands]
  rfl

end Cert.SegMean

end
-- ==== Proof.Mean.lean ====
/- The reference's result at an entry: the segment's sum over all rows, over its count over all rows clipped at one. -/
module

public import proofs.«01_k».proof.Proof.Segments

@[expose] public section

noncomputable section

namespace Cert.SegMean

open Cert.ReferenceIdeal Cert.ReferenceIdeal.Gen Idealize.ShloMosaic

/-- The reference's composed term of the rows `x` and the segment words `b`. -/
def meanTerm (x : FVec Ideal S50000x512 .f32) (b : IVec S50000 32) : FVec Ideal S128x512 .f32 :=
  Host.divf (Host.scatterAdd scatter_S128x512_S50000x1_S50000x512_1_0_0_1 (broadcastInDim S128x512 ![] bcast_S_S128x512 (constant S_ .f32 0x00000000#32)) (broadcastInDim S50000x1 ![0] bcast_S50000_S50000x1_0 b) x)
    (broadcastInDim S128x512 ![0, 1] bcast_S128x1_S128x512_0_1 (broadcastInDim S128x1 ![0] bcast_S128_S128x1_0 (maximumf (broadcastInDim S128 ![] bcast_S_S128 (id (constant S_ .f32 0x3F800000#32)))
      (Host.scatterAdd scatter_S128_S50000x1_S50000_n_0_0_1 (broadcastInDim S128 ![] bcast_S_S128 (constant S_ .f32 0x00000000#32)) (broadcastInDim S50000x1 ![0] bcast_S50000_S50000x1_0 b) (broadcastInDim S50000 ![] bcast_S_S50000 (constant S_ .f32 0x3F800000#32))))))

/-- That term at segment `g` and column `l`. -/
theorem meanTerm_apply (x : FVec Ideal S50000x512 .f32) (b : IVec S50000 32) (g : Fin 128) (l : Fin 512) :
    meanTerm x b (ix2 g l) = Ideal.div (partialSum g (fun r => b (ix1 r)) (fun r => x (ix2 r l)) 50000)
      (max (partialSum g (fun r => b (ix1 r)) (fun _ => 1) 50000) 1) := by
  rw [partialSum_all, partialSum_all]
  unfold meanTerm
  pointwise
  rw [row_scatter, one_scatter]
  pointwise
  rw [id_eq]
  pointwise
  rw [max_comm]

end Cert.SegMean

end
-- ==== Proof.lean ====
/- The proof of the claims: the two programs' frames are their generated runs, and the kernel's result is the reference's
   because, at each entry, both are the segment's sum over all rows divided by its count clipped from below at one
   (`Cert.SegMean.result_apply` for the kernel, `Cert.SegMean.meanTerm_apply` for the reference). -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Fold
public import proofs.«01_k».proof.Proof.Mean
public import Idealize.ShloMosaic.Adequacy
public import Idealize.ShloMosaic.Init
public import Idealize.ShloMosaic.Lib.Quiescent

@[expose] public section

noncomputable section

namespace Cert.Proof

open Idealize.ShloMosaic Idealize.SL.Sem

/-- The reference leaves its arguments unchanged and every counter at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's term of the arguments is the kernel's result array. -/
theorem mean_eq (m : (ℓ : Loc Cert.KernelIdeal.nD Cert.KernelIdeal.τ Cert.KernelIdeal.sig) → Buf (Elt Ideal) ℓ) (c : Dev Cert.KernelIdeal.nD) :
    Cert.SegMean.meanTerm (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Value.G2 m c := by
  funext i
  rw [eq_ix2 i]
  exact (Cert.SegMean.meanTerm_apply _ _ _ _).trans (Cert.SegMean.result_apply m c _ _).symm

/-- From memories that agree on the arguments, the kernel and the reference leave equal results. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact mean_eq m c

/-- Every claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
